-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_first [hPre_mask_is_first : Cert.Pre_mask_is_first.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_first.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_first [hPre_mask_is_first : Cert.Pre_mask_is_first.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_mask_is_first [hKernelIdeal : Cert.KernelIdeal.Facts] [hPre_mask_is_first : Cert.Pre_mask_is_first.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_first m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_mask_is_first [hReferenceIdeal : Cert.ReferenceIdeal.Facts] [hPre_mask_is_first : Cert.Pre_mask_is_first.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_first m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_mask_is_first [hKernelIdeal : Cert.KernelIdeal.Facts] [hReferenceIdeal : Cert.ReferenceIdeal.Facts] [hPre_mask_is_first : Cert.Pre_mask_is_first.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_first m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_mask_is_first : Cert.Pre_mask_is_first.Facts),
    quiescent_Kernel (hKernel := hKernel)
    ∧ quiescent_KernelIdeal (hKernelIdeal := hKernelIdeal)
    ∧ quiescent_KernelIdeal_pre_mask_is_first (hKernelIdeal := hKernelIdeal) (hPre_mask_is_first := hPre_mask_is_first)
    ∧ quiescent_ReferenceIdeal (hReferenceIdeal := hReferenceIdeal)
    ∧ quiescent_ReferenceIdeal_pre_mask_is_first (hReferenceIdeal := hReferenceIdeal) (hPre_mask_is_first := hPre_mask_is_first)
    ∧ preserves_Kernel_KernelIdeal
    ∧ algebraic_KernelIdeal_ReferenceIdeal_pre_mask_is_first (hKernelIdeal := hKernelIdeal) (hReferenceIdeal := hReferenceIdeal) (hPre_mask_is_first := hPre_mask_is_first)
-- ==== Pre_mask_is_first.lean ====
abbrev S16777216 : Shape := ⟨1, ![16777216]⟩
abbrev S8388608 : Shape := ⟨1, ![8388608]⟩

class Facts : Prop where

variable [Facts]

def fn {F : FTy → Type} [FloatOps F] (main_arg0 : FVec F S16777216 .f32) (main_arg1 : FVec F S8388608 .f32) (main_arg2 : IVec S8388608 32) : IVec S8388608 1 :=
  let main_v0 : IVec S8388608 32 := iotaInDim S8388608 32 0
  let main_v1 : IVec S8388608 1 := cmpi .eq main_arg2 main_v0
  main_v1
-- ==== Kernel.lean ====
abbrev S16777216 : Shape := ⟨1, ![16777216]⟩
abbrev S8388608 : Shape := ⟨1, ![8388608]⟩
abbrev S16384x1024 : Shape := ⟨2, ![16384, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S8388608, .f32⟩
  | .hbm, ⟨2, _⟩ => ⟨S8388608, .i32⟩
  | .hbm, ⟨3, _⟩ => ⟨S16384x1024, .f32⟩
  | .hbm, ⟨4, _⟩ => ⟨S8192x1024, .f32⟩
  | .hbm, ⟨5, _⟩ => ⟨S16384x1024, .f32⟩
  | .hbm, ⟨6, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

abbrev grid0 : Pipeline.Grid := .none
-- ==== ReferenceIdeal.lean ====
abbrev S16777216 : Shape := ⟨1, ![16777216]⟩
abbrev S8388608 : Shape := ⟨1, ![8388608]⟩
abbrev S_ : Shape := ⟨0, ![]⟩
abbrev S8388608x1 : Shape := ⟨2, ![8388608, 1]⟩

abbrev nBuf : Space → Nat
  | .hbm => 12
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S8388608, .f32⟩
  | .hbm, ⟨2, _⟩ => ⟨S8388608, .i32⟩
  | .hbm, ⟨3, _⟩ => ⟨S_, .i32⟩
  | .hbm, ⟨4, _⟩ => ⟨S8388608, .i32⟩
  | .hbm, ⟨5, _⟩ => ⟨S8388608, .i1⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S8388608, .i32⟩
  | .hbm, ⟨10, _⟩ => ⟨S8388608x1, .i32⟩
  | .hbm, ⟨11, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Copies.lean ====
/-
  What the kernel's body does on one core: two copies between buffers in HBM run at once, one from the learnable rows into the
  upper half of the result, one from the lower half of the fixed rows into the lower half of the result, each on a semaphore
  of its own; the body waits for both.
-/
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Pipeline.ValueKit.Geometry
public import Idealize.ShloMosaic.Lib.ViewIndex

@[expose] public section

noncomputable section

namespace Cert.Proof.Copies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The fixed rows, the learnable rows, the result: the three buffers the body is given, each whole. -/
abbrev fixedM : Memref sig .tc .hbm S16384x1024 .f32 := Memref.whole main_v0
abbrev learnM : Memref sig .tc .hbm S8192x1024 .f32 := Memref.whole main_v1
abbrev outM : Memref sig .tc .hbm S16384x1024 .f32 := Memref.whole main_v2

/-- The upper and the lower half of the rows of a whole-size buffer. -/
abbrev upperR : Rect S16384x1024 := Rect.unit (s := S16384x1024) ![0, 0] S8192x1024.size inb_S16384x1024_S8192x1024_0_0
abbrev lowerR : Rect S16384x1024 := Rect.unit (s := S16384x1024) ![8192, 0] S8192x1024.size inb_S16384x1024_S8192x1024_8192_0
abbrev upper (M : Memref sig .tc .hbm S16384x1024 .f32) : Memref sig .tc .hbm S8192x1024 .f32 := M.slice upperR (fun _ => rfl)
abbrev lower (M : Memref sig .tc .hbm S16384x1024 .f32) : Memref sig .tc .hbm S8192x1024 .f32 := M.slice lowerR (fun _ => rfl)

/-! ## The result -/

/-- The place in the learnable rows of an index in the upper half. -/
def topIdx (i : S16384x1024.Idx) (h : (i 0).val < 8192) : S8192x1024.Idx := Fin.cons ⟨(i 0).val, h⟩ (Fin.cons (i 1) finZeroElim)

/-- The learnable rows on top of the lower half of the fixed rows. -/
def stacked (L : S8192x1024.Idx → Elt F .f32) (X : S16384x1024.Idx → Elt F .f32) : S16384x1024.Idx → Elt F .f32 :=
  fun i => if h : (i 0).val < 8192 then L (topIdx i h) else X i

/-- An index is in a half by its row. -/
theorem mem_upperR (i : S16384x1024.Idx) : i ∈ upperR.set ↔ (i 0).val < 8192 := by
  rw [Rect.mem_set_unit, ValueKit.forall_fin_iff_conj]
  have h1 := (i 1).isLt
  change (0 ≤ (i 0).val ∧ (i 0).val < 0 + 8192) ∧ (0 ≤ (i 1).val ∧ (i 1).val < 0 + 1024) ↔ _
  change (i 1).val < 1024 at h1
  omega

theorem mem_lowerR (i : S16384x1024.Idx) : i ∈ lowerR.set ↔ 8192 ≤ (i 0).val := by
  rw [Rect.mem_set_unit, ValueKit.forall_fin_iff_conj]
  have h0 := (i 0).isLt
  have h1 := (i 1).isLt
  change (8192 ≤ (i 0).val ∧ (i 0).val < 8192 + 8192) ∧ (0 ≤ (i 1).val ∧ (i 1).val < 0 + 1024) ↔ _
  change (i 0).val < 16384 at h0
  change (i 1).val < 1024 at h1
  omega

/-- The two halves are the whole and share nothing. -/
theorem halves_disjoint : Disjoint (upper outM).view.set (lower outM).view.set :=
  View.disjoint_slice (v := outM.view) (Rect.unit_disjoint 0 (.inl (Nat.le_refl 8192)))

theorem halves_union : (upper outM).view.set ∪ (lower outM).view.set = Finset.univ := by
  ext i
  have hu := ValueKit.mem_set_slice_whole_iff main_v2 upperR i (mem_upperR i)
  have hl := ValueKit.mem_set_slice_whole_iff main_v2 lowerR i (mem_lowerR i)
  exact ⟨fun _ => Finset.mem_univ _, fun _ => Finset.mem_union.2 ((Nat.lt_or_ge _ _).imp hu.2 hl.2)⟩

/-- Contents that read as the payload through a view are what writing the payload through it leaves, on the view's elements. -/
theorem writes_whole_eq {sp : Space} {s : Shape} {e : EltTy} (v : View sig .tc sp s e) (f g : v.ty.Contents (Elt F)) (w : s.Idx → Elt F e)
    (h : ∀ x, v.read (Elt F) g x = w x) (i : v.ty.Idx) (hi : i ∈ v.set) :
    v.writes (Elt F) f [⟨Rect.whole s, w⟩] i = g i := by
  obtain ⟨x, -, rfl⟩ := Finset.mem_map.1 hi
  have hx : (v.slice (Rect.whole s)).emb x = v.emb x := congrArg v.emb (Rect.emb_whole_apply s x)
  rw [View.writes_singleton, ← hx]
  refine View.eq_of_read_eq (v := v.slice (Rect.whole s)) ((View.read_write_of_mem (v := v.slice (Rect.whole s)) f w (Finset.mem_univ x)).trans ?_)
  rw [← h x, View.read_apply, View.read_apply, hx]

/-- An index placed in the upper half and looked up again is itself. -/
theorem topIdx_upper (x : S8192x1024.Idx) (h : ((upperR.emb x) 0).val < 8192) : topIdx (upperR.emb x) h = x := by
  funext a
  refine Fin.cases ?_ (fun b => Fin.cases ?_ (fun b => b.elim0) b) a
  · have e : ((upperR.emb x) 0).val = 0 + (x 0).val := ValueKit.rect_emb_unit_val (s := S16384x1024) ![0, 0] S8192x1024.size inb_S16384x1024_S8192x1024_0_0 x 0
    exact Fin.ext (e.trans (Nat.zero_add _))
  · have e : ((upperR.emb x) 1).val = 0 + (x 1).val := ValueKit.rect_emb_unit_val (s := S16384x1024) ![0, 0] S8192x1024.size inb_S16384x1024_S8192x1024_0_0 x 1
    exact Fin.ext (e.trans (Nat.zero_add _))

/-- The result read through its upper half is the learnable rows. -/
theorem stacked_upper (L : S8192x1024.Idx → Elt F .f32) (X : S16384x1024.Idx → Elt F .f32) (x : S8192x1024.Idx) :
    stacked L X (upperR.emb x) = L x := by
  have h : ((upperR.emb x) 0).val < 8192 := (mem_upperR _).1 (Rect.map_emb_univ upperR ▸ Finset.mem_map_of_mem _ (Finset.mem_univ x))
  unfold stacked
  rw [dif_pos h, topIdx_upper]

/-- The result read through its lower half is what the fixed rows read there. -/
theorem stacked_lower (L : S8192x1024.Idx → Elt F .f32) (X : S16384x1024.Idx → Elt F .f32) (x : S8192x1024.Idx) :
    stacked L X (lowerR.emb x) = X (lowerR.emb x) := by
  have h : 8192 ≤ ((lowerR.emb x) 0).val := (mem_lowerR _).1 (Rect.map_emb_univ lowerR ▸ Finset.mem_map_of_mem _ (Finset.mem_univ x))
  unfold stacked
  rw [dif_neg (Nat.not_lt.2 h)]

/-- A buffer of the result's size held whole is its two halves held. -/
theorem whole_halves (c : Dev nD) (O : Buf (Elt F) (outM.view.loc (c : Thread nD τ))) :
    (outM.view.loc (c : Thread nD τ) ↦{fullShare} O : sProp 𝕄)
      ⊣⊢ iprop(((upper outM).view.loc (c : Thread nD τ) ↦[(upper outM).view.set]{fullShare} O)
        ∗ ((lower outM).view.loc (c : Thread nD τ) ↦[(lower outM).view.set]{fullShare} O)) := by
  have h := pointsTo_union (Ix := Unit) (Name := ℕ) (U := Pipeline.UD sig nD τ) (Lvl := ℕ) (ℓ := outM.view.loc (c : Thread nD τ)) (q := fullShare) (f := O) halves_disjoint
  rw [halves_union] at h
  exact h

/-- What the two transfers leave in the halves is the result there. -/
theorem upper_left (c : Dev nD) (X : Buf (Elt F) (fixedM.view.loc (c : Thread nD τ))) (L : Buf (Elt F) (learnM.view.loc (c : Thread nD τ)))
    (O : Buf (Elt F) (outM.view.loc (c : Thread nD τ))) (w : S8192x1024.Idx → Elt F .f32) (hw : ∀ x, w x = L x) :
    ((upper outM).view.loc (c : Thread nD τ) ↦[(upper outM).view.set]{fullShare}
        (upper outM).view.writes (Elt F) O [⟨Rect.whole S8192x1024, w⟩] : sProp 𝕄)
      = ((upper outM).view.loc (c : Thread nD τ) ↦[(upper outM).view.set]{fullShare} stacked L X) :=
  pointsTo_congr (writes_whole_eq (upper outM).view O (stacked L X) w fun x => (stacked_upper L X x).trans (hw x).symm)

theorem lower_left (c : Dev nD) (X : Buf (Elt F) (fixedM.view.loc (c : Thread nD τ))) (L : Buf (Elt F) (learnM.view.loc (c : Thread nD τ)))
    (O : Buf (Elt F) (outM.view.loc (c : Thread nD τ))) (w : S8192x1024.Idx → Elt F .f32) (hw : ∀ x, w x = X (lowerR.emb x)) :
    ((lower outM).view.loc (c : Thread nD τ) ↦[(lower outM).view.set]{fullShare}
        (lower outM).view.writes (Elt F) O [⟨Rect.whole S8192x1024, w⟩] : sProp 𝕄)
      = ((lower outM).view.loc (c : Thread nD τ) ↦[(lower outM).view.set]{fullShare} stacked L X) :=
  pointsTo_congr (writes_whole_eq (lower outM).view O (stacked L X) w fun x => (stacked_lower L X x).trans (hw x).symm)

/-! ## The body -/

/-- The body, run: from the three buffers whole, both semaphores at zero, it ends with the result stacked and everything else as
    it was. -/
theorem body_run (c : Dev nD) (X : Buf (Elt F) (fixedM.view.loc (c : Thread nD τ))) (L : Buf (Elt F) (learnM.view.loc (c : Thread nD τ)))
    (O : Buf (Elt F) (outM.view.loc (c : Thread nD τ))) (W : Waits sig Unit) (K : PUnit → sProp 𝕄) :
    iprop((fixedM.view.loc (c : Thread nD τ) ↦{fullShare} X) ∗ (learnM.view.loc (c : Thread nD τ) ↦{fullShare} L)
        ∗ (outM.view.loc (c : Thread nD τ) ↦{fullShare} O)
        ∗ semVal ((c : Thread nD τ), SemLoc.dma cc0_scratch0.sem) 0 ∗ semVal ((c : Thread nD τ), SemLoc.dma cc0_scratch1.sem) 0
        ∗ owes (c : Thread nD τ) 0 W
        ∗ (iprop((fixedM.view.loc (c : Thread nD τ) ↦{fullShare} X) ∗ (learnM.view.loc (c : Thread nD τ) ↦{fullShare} L)
            ∗ (outM.view.loc (c : Thread nD τ) ↦{fullShare} stacked L X)
            ∗ semVal ((c : Thread nD τ), SemLoc.dma cc0_scratch0.sem) 0 ∗ semVal ((c : Thread nD τ), SemLoc.dma cc0_scratch1.sem) 0
            ∗ (∃ W', owes (c : Thread nD τ) 0 W')) -∗ K ⟨⟩))
      ⊢ wp frame (wpE (defs₀ (F := F)) Variants.none c none) Set.univ
          (cc0__dma_body fixedM (Memref.isWhole_whole _) learnM (Memref.isWhole_whole _) outM (Memref.isWhole_whole _) cc0_scratch0 cc0_scratch1) K := by
  rw [cc0__dma_body_eq_skeleton]; unfold cc0__dma_body_skel
  iintro ⟨HX, HL, HO, Hs0, Hs1, HW, Hk⟩
  ihave HO := (whole_halves c O).1 $$ HO
  icases HO with ⟨HU, HD⟩
  sl_exec
  sl_step
  ihave HU := (Entails.of_eq (upper_left c X L O (body_run.sl.dma0 c L) fun _ => rfl)) $$ HU
  ihave HD := (Entails.of_eq (lower_left c X L O (body_run.sl.dma0_1 c X) fun _ => rfl)) $$ HD
  iapply Hk
  isplitl [HX]; · iexact HX
  isplitl [HL]; · iexact HL
  isplitl [HU HD]
  · iapply (whole_halves c (stacked L X)).2
    isplitl [HU]; · iexact HU
    iexact HD
  isplitl [Hs0]; · iexact Hs0
  isplitl [Hs1]; · iexact Hs1
  iexists _; iexact HW

end Cert.Proof.Copies

end
-- ==== Proof.Launch.lean ====
/-
  The kernel's program, run: the host reshapes the fixed and the learnable values into rows, the region stacks the learnable rows
  on the lower half of the fixed ones, the host reshapes the result back to a flat array. Stated at any reading of the floats.
-/
module

public import proofs.«01_k».proof.Proof.Copies

@[expose] public section

noncomputable section

namespace Cert.Proof.Launch

open Cert.KernelIdeal Cert.KernelIdeal.Gen Cert.Proof.Copies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (Pipeline.UD sig nD τ) ℕ

/-! ## The buffers and the semaphores the body uses itself -/

/-- The region's windows: none. -/
abbrev spec0 := cfg0.spec

/-- The two semaphores, the two buffers read, the one written. -/
def osem0 : Fin 2 → SemLoc sig := fun j => (![SemLoc.dma 0, SemLoc.dma 1] : Fin 2 → SemLoc sig) j
def H0 : Finset (Ref sig .tc) := {main_v0, main_v1}
def R0 : Finset (Ref sig .tc) := {main_v2}

/-- The semaphores are two and scratch of the region; the buffers are neither scoped nor a window's array. -/
theorem ownSemFacts0 : Pipeline.OwnSemFacts spec0 osem0 := by decide
theorem H0_sub : H0 ⊆ Pipeline.restRefs sig spec0 := by decide
theorem R0_sub : R0 ⊆ Pipeline.restRefs sig spec0 \ H0 := by decide

/-- The two semaphores at zero, one after the other. -/
theorem ownSems0_list (c : Dev nD) : Pipeline.ownSems0 osem0 c =
    (iprop(semVal ((c : Thread nD τ), SemLoc.dma cc0_scratch0.sem) 0 ∗ semVal ((c : Thread nD τ), SemLoc.dma cc0_scratch1.sem) 0) : sProp 𝕄) := by
  rw [Pipeline.ownSems0_eq_of_list c osem0 [0, 1] (by decide) (by decide)]; rfl

/-- What the region leaves in the result's buffer (every other buffer's entry is not read). -/
def left (c : Dev nD) : (b : Ref sig .tc) → Buf (Elt F) ((c : Thread nD τ).loc b) :=
  Function.update (V m c) main_v2 (stacked (V m c main_v1) (V m c main_v0))

theorem left_v2 (c : Dev nD) : left m c main_v2 = stacked (V m c main_v1) (V m c main_v0) := Function.update_self ..

/-- The region's assertion, the result's contents named by `G`: the semaphores at zero, the three buffers. -/
theorem region_list (c : Dev nD) (G : (c : Dev nD) → (b : Ref sig .tc) → Buf (Elt F) ((c : Thread nD τ).loc b)) :
    Pipeline.ΦDRV osem0 spec0 H0 R0 (V m) G c =
      (iprop(emp
        ∗ (semVal ((c : Thread nD τ), SemLoc.dma cc0_scratch0.sem) 0 ∗ semVal ((c : Thread nD τ), SemLoc.dma cc0_scratch1.sem) 0)
        ∗ (((c : Thread nD τ).loc main_v0 ↦{fullShare} V m c main_v0) ∗ ((c : Thread nD τ).loc main_v1 ↦{fullShare} V m c main_v1))
        ∗ ((c : Thread nD τ).loc main_v2 ↦{fullShare} G c main_v2)) : sProp 𝕄) := by
  unfold Pipeline.ΦDRV
  rw [scopedRest0_eq, ownSems0_list, BI.bigSep_eq_bigSepL_of_eq [main_v0, main_v1] (by decide) (by decide),
    BI.bigSep_eq_bigSepL_of_eq [main_v2] (by decide) (by decide)]
  rfl

/-! ## The region -/

/-- The proof data: before the one point the buffers as the region finds them, after it the result stacked. -/
def dats (_ : Fin 1) (c : Dev nD) : Dat τ (Elt F) Unit ℕ (Pipeline.UD sig nD τ) ℕ cfg0 c where
  A w := V m c (Pipeline.arrRef spec0 w)
  after w t := w.elim0
  Φ p := if p = 0 then Pipeline.ΦDRV osem0 spec0 H0 R0 (V m) (V m) c else Pipeline.ΦDRV osem0 spec0 H0 R0 (V m) (left m) c
  q _ := fullShare
  owed _ := 0

/-- The region's assertion at its start and from its one point on. -/
theorem inv_first (c : Dev nD) (p : Fin (cfg0.N + 1)) (h : p = 0) : (dats m 0 c).Φ p = Pipeline.ΦDRV osem0 spec0 H0 R0 (V m) (V m) c := if_pos h
theorem inv_later (c : Dev nD) (p : Fin (cfg0.N + 1)) (h : p ≠ 0) : (dats m 0 c).Φ p = Pipeline.ΦDRV osem0 spec0 H0 R0 (V m) (left m) c := if_neg h

theorem castSucc_eq (t : Fin cfg0.N) : t.castSucc = 0 := by revert t; decide
theorem succ_ne (t : Fin cfg0.N) : t.succ ≠ 0 := Fin.succ_ne_zero t
theorem last_ne : Fin.last cfg0.N ≠ 0 := by decide

/-- What the body is given at the point and what it hands back. -/
def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

/-- The body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [inv_first m c _ (castSucc_eq t), inv_later m c _ (succ_ne t), region_list, region_list, left_v2]
  unfold Dat.owesAt Pipeline.owesWithin
  rw [show (dats m 0 c).owed t.castSucc = 0 from rfl, show (dats m 0 c).owed t.succ = 0 from rfl]
  iintro ⟨⟨-, ⟨Hs0, Hs1⟩, ⟨HX, HL⟩, HO⟩, ⟨%W, -, HW⟩, -⟩
  iapply (body_run c (V m c main_v0) (V m c main_v1) (V m c main_v2) W _)
  isplitl [HX]; · iexact HX
  isplitl [HL]; · iexact HL
  isplitl [HO]; · iexact HO
  isplitl [Hs0]; · iexact Hs0
  isplitl [Hs1]; · iexact Hs1
  isplitl [HW]; · iexact HW
  iintro ⟨HX, HL, HO, Hs0, Hs1, ⟨%W', HW'⟩⟩
  isplitl [HX HL HO Hs0 Hs1]
  · isplitr; · iempintro
    isplitl [Hs0 Hs1]
    · isplitl [Hs0]; · iexact Hs0
      iexact Hs1
    isplitl [HX HL]
    · isplitl [HX]; · iexact HX
      iexact HL
    iexact HO
  isplitl [HW']
  · iexists W'; isplitr; · ipureintro; exact fun _ _ => Or.inl trivial
    iexact HW'
  iempintro

theorem defs₀_row (t : Fin cfg0.N) : defs₀ (F := F) .tc cfg0.body (cfg0.bodyArgs t (cfg0.slots t)) = bodyAt0 t := by
  unfold defs₀; rw [Defs.onTc_tc]

/-- The same, as the launch asks for it. -/
theorem body_obligation (c : Dev nD) : BodyObligation (dats (F := F) m 0 c) (defs₀ (F := F)) Variants.none () Set.univ := fun t => by
  rw [defs₀_row]
  exact triple_restated (sound_body m c t) rfl .rfl fun _ => .rfl

/-! ## The program -/

/-- The values the program returns of its first two arguments: the fixed values as rows, their upper half replaced by the learnable
    values as rows, flat again. -/
def flatOut (a0 : S16777216.Idx → Elt F .f32) (a1 : S8388608.Idx → Elt F .f32) : S16777216.Idx → Elt F .f32 :=
  shapeCast S16777216 (stacked (shapeCast S8192x1024 a1 shapeCasts_S8388608_S8192x1024)
    (shapeCast S16384x1024 a0 shapeCasts_S16777216_S16384x1024)) shapeCasts_S16384x1024_S16777216

/-- The rows the region is given. -/
theorem V_rows0 (c : Dev nD) : V m c main_v0 = shapeCast S16384x1024 (m ((c : Thread nD τ).loc main_arg0)) shapeCasts_S16777216_S16384x1024 := by
  show StableHlo.after hostOps0 _ _ = _
  after_results
  rfl
theorem V_rows1 (c : Dev nD) : V m c main_v1 = shapeCast S8192x1024 (m ((c : Thread nD τ).loc main_arg1)) shapeCasts_S8388608_S8192x1024 := by
  show StableHlo.after hostOps0 _ _ = _
  after_results
  rfl

/-- The program around its region, over the resources of a body with transfers of its own. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The contents when the region is left. -/
abbrev atExit (c : Dev nD) : Valuation τ sig (Elt F) :=
  Pipeline.withArrays spec0 c (Pipeline.withR (V0 m c) R0 c (left m c)) fun w => (dats m 0 c).arrAt w cfg0.N

/-- The region changes the result's buffer only. -/
theorem atExit_kept (c : Dev nD) (b : Ref sig .tc) (hb : b ∉ R0) : atExit m c (Proc.devRef .tc b) = V m c b :=
  (Pipeline.withArrays_of_ne _ _ _ _ b (fun w => w.elim0)).trans (Pipeline.withR_of_not_mem _ _ _ _ b hb)
theorem atExit_v2 (c : Dev nD) : atExit m c (Proc.devRef .tc main_v2) = stacked (V m c main_v1) (V m c main_v0) :=
  (Pipeline.withArrays_of_ne _ _ _ _ main_v2 (fun w => w.elim0)).trans ((Pipeline.withR_of_mem _ _ _ _ main_v2 (by decide)).trans (left_v2 m c))

/-- The last host line writes the result only. -/
theorem final_kept (c : Dev nD) (b : Ref sig .tc) (hb : b ≠ main_v3) (hR : b ∉ R0) :
    StableHlo.after (List.flatten [hostOps1]) (atExit m c) (Proc.devRef .tc b) = V m c b := by
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hb))]
  exact atExit_kept m c b hR
theorem final_v3 (c : Dev nD) : StableHlo.after (List.flatten [hostOps1]) (atExit m c) (Proc.devRef .tc main_v3)
    = flatOut (m ((c : Thread nD τ).loc main_arg0)) (m ((c : Thread nD τ).loc main_arg1)) := by
  have h : StableHlo.after (List.flatten [hostOps1]) (atExit m c) (Proc.devRef .tc main_v3)
      = shapeCast S16777216 (atExit m c (Proc.devRef .tc main_v2)) shapeCasts_S16384x1024_S16777216 := by
    generalize atExit m c = A
    show StableHlo.after hostOps1 _ _ = _
    after_results
    rfl
  rw [h, atExit_v2, V_rows0, V_rows1]
  rfl

/-- What a final state holds: the result, the arguments as launched, every semaphore counter at zero. -/
def Ends (r : PUnit × MemSt nD τ sig (Elt F)) : Prop :=
  (∀ c : Dev nD, r.2.mem ((c : Thread nD τ).loc main_v3) = flatOut (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

set_option backward.isDefEq.respectTransparency.types false in
/-- The program runs and ends so. -/
theorem run_main : θ_run defs (onTc (τ := τ) (main (F := F))) ⟨m, fun _ => 0, ρ⟩ (Ends m) :=
  Pipeline.θ_run_frame_dmaR_aroundV (Q' := Ends m) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := left m)
    (hmain := main_around m) (hA := fun _ w => w.elim0)
    (hin := fun c => Entails.of_eq (inv_first m c 0 rfl).symm) (hout := fun c => Entails.of_eq (inv_later m c _ last_ne))
    (hQ' := fun r h => ⟨fun c =>
      ⟨((h.1 c).2 main_v3 (Pipeline.mem_restRefs_of main_v3 (by decide) (by decide))).trans (final_v3 m c),
       ((h.1 c).2 main_arg0 (Pipeline.mem_restRefs_of main_arg0 (by decide) (by decide))).trans ((final_kept m c main_arg0 (by decide) (by decide)).trans (V_main_arg0 m c)),
       ((h.1 c).2 main_arg1 (Pipeline.mem_restRefs_of main_arg1 (by decide) (by decide))).trans ((final_kept m c main_arg1 (by decide) (by decide)).trans (V_main_arg1 m c)),
       ((h.1 c).2 main_arg2 (Pipeline.mem_restRefs_of main_arg2 (by decide) (by decide))).trans ((final_kept m c main_arg2 (by decide) (by decide)).trans (V_main_arg2 m c))⟩, h.2⟩)

end Cert.Proof.Launch

end
-- ==== Proof.Scatter.lean ====
/-
  A scatter of `N` scalars into a flat array of `M`, one index word each, that replaces what it hits: when update `n`'s index word
  is `n` itself, the first `N` places of the result are the updates and the others are as they were.
-/
module

public import Idealize.ShloMosaic.Lib.Routing.OpsSet
public import Idealize.ShloMosaic.Lib.Routing.OpsPair

@[expose] public section

noncomputable section

namespace Cert.Proof.Scatter

open Idealize.ShloMosaic Idealize.ShloMosaic.Routing

variable {M N : Nat}

/-- The flat place `v` of an array of `N`. -/
def place (v : Nat) (h : v < N) : (⟨1, ![N]⟩ : Shape).Idx := Fin.cons ⟨v, h⟩ finZeroElim

/-- A flat index is its one coordinate. -/
theorem flat_ext {i j : (⟨1, ![N]⟩ : Shape).Idx} (h : (i 0).val = (j 0).val) : i = j :=
  funext (Fin.forall_fin_one.2 (Fin.ext h))

section
variable (d : ScatterDims ⟨1, ![M]⟩ ⟨2, ![N, 1]⟩ ⟨1, ![N]⟩) (hins : d.insertedWindowDims = [0]) (hmap : d.scatterDimsToOperandDims = [0])
  (hvec : d.indexVectorDim = 1)
include hvec

/-- Update `k` reads its index word in row `k`. -/
theorem index_row (k : (⟨1, ![N]⟩ : Shape).Idx) (x : Fin d.scatterDimsToOperandDims.length) : (d.siIdx k x 0).val = (k 0).val := by
  unfold ScatterDims.siIdx
  rw [dif_neg (fun h => absurd (h.trans hvec) Nat.zero_ne_one)]
  unfold ScatterDims.siCoord
  rw [Fin.val_cast]
  have only : ∀ a : Fin 1, (k a).val = (k 0).val := Fin.forall_fin_one.2 rfl
  exact only _

include hins hmap

/-- Update `k` lands at place `k` and at no other. -/
theorem lands (idx : IVec ⟨2, ![N, 1]⟩ 32) (hidx : ∀ j, (idx j).toInt = ((j 0).val : Int)) (k : (⟨1, ![N]⟩ : Shape).Idx)
    (p : (⟨1, ![M]⟩ : Shape).Idx) : d.resultIdx? k idx = some p ↔ (k 0).val = (p 0).val := by
  have hw : d.window k 0 = 0 := dif_neg fun h => (of_decide_eq_true (List.mem_filter.1 h).2) (by rw [hins]; exact List.mem_cons_self)
  have hs : d.start k idx 0 = ((k 0).val : Int) := by
    unfold ScatterDims.start
    rw [dif_pos (by rw [hmap]; exact List.mem_cons_self), hidx, index_row d hvec]
  rw [resultIdx?_eq_some]
  refine (Fin.forall_fin_one (p := fun a => d.start k idx a + (d.window k a : Int) = ((p a).val : Int))).trans ?_
  rw [hw, hs]
  omega

/-- The scatter's result at a place. -/
theorem scatter_at {α : Type} (x : (⟨1, ![M]⟩ : Shape).Idx → α) (idx : IVec ⟨2, ![N, 1]⟩ 32) (hidx : ∀ j, (idx j).toInt = ((j 0).val : Int))
    (upd : (⟨1, ![N]⟩ : Shape).Idx → α) (p : (⟨1, ![M]⟩ : Shape).Idx) :
    Host.scatter d (fun _ b => b) x idx upd p = if h : (p 0).val < N then upd (place (p 0).val h) else x p := by
  by_cases h : (p 0).val < N
  · rw [dif_pos h]
    refine scatter_set_hit d x idx upd p _ (fun k hk => congrArg upd (flat_ext ?_)) (place (p 0).val h) ?_
    · exact (lands d hins hmap hvec idx hidx k p).1 hk
    · exact (lands d hins hmap hvec idx hidx _ p).2 rfl
  · rw [dif_neg h]
    refine scatter_set_miss d x idx upd p fun k hk => h ?_
    rw [← (lands d hins hmap hvec idx hidx k p).1 hk]
    exact (k 0).isLt

end

end Cert.Proof.Scatter

end
-- ==== Proof.Values.lean ====
/-
  The kernel's result and the reference's, each at a flat place: a learnable value in the first half, a fixed value in the second.
  The reference places the learnable values where the mask says, and the precondition says that update `n` goes to place `n`.
-/
module

public import proofs.«01_k».proof.Proof.Scatter
public import proofs.«01_k».proof.Proof.Launch
public import proofs.«01_k».proof.Proof.Gen.ReferenceIdeal
public import proofs.«01_k».proof.Defs
public import Idealize.ShloMosaic.Lib.StableHlo.Predicate

@[expose] public section

noncomputable section

namespace Cert.Proof.Values

open Cert.KernelIdeal Cert.KernelIdeal.Gen Cert.Proof.Copies Cert.Proof.Launch Cert.Proof.Scatter
open Idealize.ShloMosaic Idealize.ShloMosaic.Routing

variable {F : FTy → Type} [FloatOps F]

/-- The learnable values in the first half, the fixed ones in the second. -/
def mixed (a0 : S16777216.Idx → Elt F .f32) (a1 : S8388608.Idx → Elt F .f32) : S16777216.Idx → Elt F .f32 :=
  fun i => if h : (i 0).val < 8388608 then a1 (place (i 0).val h) else a0 i

/-! ## The kernel's result -/

/-- The row and the column of a flat place. -/
def rowCol (i : S16777216.Idx) : S16384x1024.Idx :=
  Fin.cons ⟨(i 0).val / 1024, Nat.div_lt_of_lt_mul (i 0).isLt⟩ (Fin.cons ⟨(i 0).val % 1024, Nat.mod_lt _ (by decide)⟩ finZeroElim)

/-- A flat place and its row and column are one position. -/
theorem rowCol_flat (i : S16777216.Idx) : (S16384x1024.rowMajor (rowCol i)).val = (S16777216.rowMajor i).val := by
  rw [Shape.rowMajor_val_two, Shape.rowMajor_val_one]
  exact Nat.div_add_mod' _ _

/-- What the kernel returns is the two halves. -/
theorem flatOut_eq (a0 : S16777216.Idx → Elt F .f32) (a1 : S8388608.Idx → Elt F .f32) : flatOut a0 a1 = mixed a0 a1 := by
  funext i
  unfold flatOut
  rw [shapeCast_apply _ _ i (rowCol i) (rowCol_flat i)]
  unfold stacked mixed
  have hrow : ((rowCol i) 0).val = (i 0).val / 1024 := rfl
  by_cases h : (i 0).val < 8388608
  · have hr : ((rowCol i) 0).val < 8192 := by rw [hrow]; omega
    rw [dif_pos h, dif_pos hr]
    refine shapeCast_apply a1 _ _ _ ?_
    rw [Shape.rowMajor_val_one, Shape.rowMajor_val_two]
    exact (Nat.div_add_mod' _ _).symm
  · have hr : ¬((rowCol i) 0).val < 8192 := by rw [hrow]; omega
    rw [dif_neg h, dif_neg hr]
    exact shapeCast_apply a0 _ _ _ (rowCol_flat i).symm

/-! ## The reference's result -/

/-- The precondition's program states nothing to prove. -/
instance preFacts : Cert.Pre_mask_is_first.Facts := ⟨⟩

/-- The precondition at an element: the mask's word there is the place's number. -/
theorem mask_word (a0 : S16777216.Idx → Elt Ideal .f32) (a1 : S8388608.Idx → Elt Ideal .f32) (a2 : IVec S8388608 32)
    (h : Cert.Pre_mask_is_first.fn (F := Ideal) a0 a1 a2 = fun _ => 1#1) (k : S8388608.Idx) : a2 k = BitVec.ofNat 32 (k 0).val := by
  have e : IntOp.cmpi .eq (a2 k) (BitVec.ofNat 32 (k 0).val) = 1#1 := congrFun h k
  rw [WordCmp.cmpi_eq_eq] at e
  exact of_decide_eq_true (by cases hd : decide (a2 k = BitVec.ofNat 32 (k 0).val) <;> simp_all)

/-- The index words of the reference's scatter, of the mask's. -/
def words (a2 : IVec S8388608 32) : IVec S8388608 32 :=
  select (cmpi .slt a2 (broadcastInDim Cert.ReferenceIdeal.S8388608 ![] Cert.ReferenceIdeal.Gen.bcast_S_S8388608 (constantI Cert.ReferenceIdeal.S_ 32 0#32)))
    (addi a2 (broadcastInDim Cert.ReferenceIdeal.S8388608 ![] Cert.ReferenceIdeal.Gen.bcast_S_S8388608 (constantI Cert.ReferenceIdeal.S_ 32 16777216#32))) a2

/-- A word below 2³¹ is used as it is. -/
theorem words_at (a2 : IVec S8388608 32) (k : S8388608.Idx) (h : a2 k = BitVec.ofNat 32 (k 0).val) : (words a2 k).toInt = ((k 0).val : Int) := by
  have hk : (k 0).val < 8388608 := (k 0).isLt
  have hw : words a2 k = a2 k := wrap_of_lt (a2 k) _ (by rw [h, BitVec.toNat_ofNat]; omega)
  rw [hw, h, StableHlo.Predicate.toInt_ofNat_small _ (by omega)]

/-- The reference's result, of its arguments. -/
def scattered (a0 : S16777216.Idx → Elt Ideal .f32) (a1 : S8388608.Idx → Elt Ideal .f32) (a2 : IVec S8388608 32) : S16777216.Idx → Elt Ideal .f32 :=
  Host.scatter Cert.ReferenceIdeal.scatter_S16777216_S8388608x1_S8388608_n_0_0_1 (fun _ b => b) a0
    (broadcastInDim Cert.ReferenceIdeal.S8388608x1 ![0] Cert.ReferenceIdeal.Gen.bcast_S8388608_S8388608x1_0 (words a2)) a1

/-- A column of words, read: the word of its row. -/
theorem column_at (w : IVec S8388608 32) (j : Cert.ReferenceIdeal.S8388608x1.Idx) :
    broadcastInDim Cert.ReferenceIdeal.S8388608x1 ![0] Cert.ReferenceIdeal.Gen.bcast_S8388608_S8388608x1_0 w j = w (place (j 0).val (j 0).isLt) := by
  unfold broadcastInDim
  refine congrArg w (flat_ext ?_)
  have h : ¬S8388608.size 0 = 1 := by decide
  exact congrArg Fin.val (dif_neg h)

/-- What the reference returns is the two halves, under the precondition. -/
theorem scattered_eq (a0 : S16777216.Idx → Elt Ideal .f32) (a1 : S8388608.Idx → Elt Ideal .f32) (a2 : IVec S8388608 32)
    (h : Cert.Pre_mask_is_first.fn (F := Ideal) a0 a1 a2 = fun _ => 1#1) : scattered a0 a1 a2 = mixed a0 a1 := by
  funext i
  refine scatter_at _ rfl rfl rfl a0 _ (fun j => ?_) a1 i
  rw [column_at]
  exact words_at a2 _ (mask_word a0 a1 a2 h _)

/-- The two results are one. -/
theorem results_eq (a0 : S16777216.Idx → Elt Ideal .f32) (a1 : S8388608.Idx → Elt Ideal .f32) (a2 : IVec S8388608 32)
    (h : Cert.Pre_mask_is_first.fn (F := Ideal) a0 a1 a2 = fun _ => 1#1) : flatOut a0 a1 = scattered a0 a1 a2 :=
  (flatOut_eq a0 a1).trans (scattered_eq a0 a1 a2 h).symm

end Cert.Proof.Values

end
-- ==== Proof.lean ====
/-
  The claims, put together: the frames from the kernel's run (Proof/Launch.lean) and the reference's host run, the value claim from
  the equation of the two results (Proof/Values.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Launch
public import proofs.«01_k».proof.Proof.Values
public import Idealize.ShloMosaic.Lib.Claim
public import Idealize.ShloMosaic.Adequacy
public import Idealize.ShloMosaic.Init

@[expose] public section

noncomputable section

namespace Cert.Proof

open Idealize.ShloMosaic Idealize.SL.Sem

/-- The kernel at any reading of the floats: the arguments and the semaphores at the end. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2, h.2⟩) (Launch.run_main m g)

/-- The frames: of the kernel at the words, of the kernel at the reals, of the reference at the reals. -/
theorem quiescent_K : Cert.quiescent_Kernel := fun m g _ => kernel_frame (F := Bits) m g
theorem quiescent_KI : Cert.quiescent_KernelIdeal := fun m g _ => kernel_frame (F := Ideal) m g

/-- The reference's run: its result is the scatter's, its arguments end as launched. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
        r.2.mem ((c.tc : Thread Cert.ReferenceIdeal.nD Cert.ReferenceIdeal.τ).loc Cert.ReferenceIdeal.main_v6)
          = Values.scattered (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  unfold Values.scattered Values.words
  hlo_run

theorem quiescent_RI : Cert.quiescent_ReferenceIdeal := fun m g _ =>
  (θ_run _ _ _).mono (fun r h => ⟨fun c => (h c).2, Idealize.ShloMosaic.sem_eq_zero_of_no_sems (by decide) r.2⟩) (reference_run m g)

/-- The two results are equal. -/
theorem algebraic : Cert.algebraic_KernelIdeal_ReferenceIdeal_pre_mask_is_first := by
  intro m g m' g' hpre hagree
  refine ⟨_, (θ_run _ _ _).mono (fun r h => h.1) (Launch.run_main m g), (θ_run _ _ _).mono (fun r h c => ⟨?_, (h c).2⟩) (reference_run m' g')⟩
  rw [(h c).1, (hagree c).1, (hagree c).2.1, (hagree c).2.2]
  exact (Values.results_eq _ _ _ (hpre c)).symm

/-- Everything claimed. -/
theorem claim : Cert.Claim :=
  ⟨Cert.Kernel.Gen.facts, Cert.KernelIdeal.Gen.facts, Cert.ReferenceIdeal.Gen.facts, Values.preFacts,
    quiescent_K, quiescent_KI, fun m g _ => quiescent_KI m g trivial, quiescent_RI, fun m g _ => quiescent_RI m g trivial, trivial, algebraic⟩

end Cert.Proof

end
